-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x32 : Shape := ⟨3, ![16, 1024, 32]⟩
abbrev S32x512 : Shape := ⟨2, ![32, 512]⟩
abbrev S1x512 : Shape := ⟨2, ![1, 512]⟩
abbrev S_ : Shape := ⟨0, ![]⟩

class Facts : Prop where
  bcast_S_S16x1024x32 : S_.BroadcastsInDim S16x1024x32 (![] : Fin 0 → Fin S16x1024x32.rank)
  reducesTo_S16x1024x32_S_d0_1_2 : S16x1024x32.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_

variable [Facts]

def fn {F : FTy → Type} [FloatOps F] (main_arg0 : FVec F S16x1024x32 .f32) (main_arg1 : FVec F S32x512 .f32) (main_arg2 : FVec F S1x512 .f32) : IVec S_ 1 :=
  let main_v0 : FVec F S16x1024x32 .f32 := Host.absf main_arg0
  let main_cst : FVec F S_ .f32 := constant S_ .f32 0x7F800000#32
  let main_v1 : FVec F S16x1024x32 .f32 := broadcastInDim S16x1024x32 ![] bcast_S_S16x1024x32 main_cst
  let main_v2 : IVec S16x1024x32 1 := cmpf .olt main_v0 main_v1
  let main_c : IVec S_ 1 := constantI S_ 1 1#1
  let main_v3 : IVec S_ 1 := (fun x v => Host.reduce IntOp.andi x v reducesTo_S16x1024x32_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  main_v8
-- ==== Kernel.lean ====
abbrev S16x1024x32 : Shape := ⟨3, ![16, 1024, 32]⟩
abbrev S32x512 : Shape := ⟨2, ![32, 512]⟩
abbrev S1x512 : Shape := ⟨2, ![1, 512]⟩
abbrev S16384x32 : Shape := ⟨2, ![16384, 32]⟩
abbrev S32x16384 : Shape := ⟨2, ![32, 16384]⟩
abbrev S_ : Shape := ⟨0, ![]⟩
abbrev S16384 : Shape := ⟨1, ![16384]⟩
abbrev S1x16384 : Shape := ⟨2, ![1, 16384]⟩
abbrev S16x1024 : Shape := ⟨2, ![16, 1024]⟩
abbrev S32x8192 : Shape := ⟨2, ![32, 8192]⟩
abbrev S1x8192 : Shape := ⟨2, ![1, 8192]⟩
abbrev S8x1024 : Shape := ⟨2, ![8, 1024]⟩
abbrev S512x32 : Shape := ⟨2, ![512, 32]⟩
abbrev S512x8192 : Shape := ⟨2, ![512, 8192]⟩
abbrev S512x1 : Shape := ⟨2, ![512, 1]⟩
abbrev S8x8192 : Shape := ⟨2, ![8, 8192]⟩
abbrev S4x8192 : Shape := ⟨2, ![4, 8192]⟩
abbrev S2x8192 : Shape := ⟨2, ![2, 8192]⟩
abbrev S8192 : Shape := ⟨1, ![8192]⟩

abbrev nBuf : Space → Nat
  | .hbm => 10
  | .vmem => 8
  | .smem => 0
  | _ => 0

abbrev bufTy : (tb : Table) → Fin (tcTables nBuf tb) → BufTy
  | .hbm, ⟨0, _⟩ => ⟨S16x1024x32, .f32⟩
  | .hbm, ⟨1, _⟩ => ⟨S32x512, .f32⟩
  | .hbm, ⟨2, _⟩ => ⟨S1x512, .f32⟩
  | .hbm, ⟨3, _⟩ => ⟨S16384x32, .f32⟩
  | .hbm, ⟨4, _⟩ => ⟨S32x16384, .f32⟩
  | .hbm, ⟨5, _⟩ => ⟨S16384x32, .f32⟩
  | .hbm, ⟨6, _⟩ => ⟨S_, .f32⟩
  | .hbm, ⟨7, _⟩ => ⟨S16384, .f32⟩
  | .hbm, ⟨8, _⟩ => ⟨S1x16384, .f32⟩
  | .hbm, ⟨9, _⟩ => ⟨S16x1024, .i32⟩
  | .local _ .vmem, ⟨0, _⟩ => ⟨S32x8192, .f32⟩
  | .local _ .vmem, ⟨1, _⟩ => ⟨S32x8192, .f32⟩
  | .local _ .vmem, ⟨2, _⟩ => ⟨S1x8192, .f32⟩
  | .local _ .vmem, ⟨3, _⟩ => ⟨S1x8192, .f32⟩
  | .local _ .vmem, ⟨4, _⟩ => ⟨S32x512, .f32⟩
  | .local _ .vmem, ⟨5, _⟩ => ⟨S1x512, .f32⟩
  | .local _ .vmem, ⟨6, _⟩ => ⟨S8x1024, .i32⟩
  | .local _ .vmem, ⟨7, _⟩ => ⟨S8x1024, .i32⟩
  | _, _ => ⟨S16x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1024x32 : Shape := ⟨3, ![16, 1024, 32]⟩
abbrev S32x512 : Shape := ⟨2, ![32, 512]⟩
abbrev S1x512 : Shape := ⟨2, ![1, 512]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S16384x512 : Shape := ⟨2, ![16384, 512]⟩
abbrev S16x1024 : Shape := ⟨2, ![16, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S32x512, .f32⟩
  | .hbm, ⟨2, _⟩ => ⟨S1x512, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .i32⟩
  | .hbm, ⟨17, _⟩ => ⟨S_, .f32⟩
  | .hbm, ⟨18, _⟩ => ⟨S_, .i32⟩
  | .hbm, ⟨19, _⟩ => ⟨S16384, .f32⟩
  | .hbm, ⟨20, _⟩ => ⟨S16384, .i32⟩
  | .hbm, ⟨21, _⟩ => ⟨S16x1024, .i32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.Tree.lean ====
/-
  The kernel's tournament as a term: what the body stores, respelt over six pairing levels on the sixty-four row blocks
  of the distance array and three halvings of the eight rows that remain.
-/
module

public import proofs.«01_k».proof.Proof.Gen.KernelIdeal.Frame

@[expose] public section

set_option maxRecDepth 16384

noncomputable section

namespace Cert.KernelIdeal.Tree

open Idealize.ShloMosaic Idealize.SL.Sem
open Cert.KernelIdeal Cert.KernelIdeal.Gen

variable {F : FTy → Type} [FloatOps F]

/-- Eight rows starting at a row block lie inside the distance array. -/
theorem rows_fit : ∀ b : Fin 64, S512x8192.Slices ![8 * b.val, 0] S8x8192 := by decide

/-- Row block `b` of the distance array: its rows `8b` to `8b + 7`. -/
def rows (D : FVec F S512x8192 .f32) (b : ℕ) : FVec F S8x8192 .f32 :=
  extractStridedSlice S8x8192 ![8 * (Fin.ofNat 64 b).val, 0] D (rows_fit _)

/-- The words of the floats `0` to `63`, in order. -/
def word : Fin 64 → BitVec 32 := ![
  0x00000000#32, 0x3F800000#32, 0x40000000#32, 0x40400000#32, 0x40800000#32, 0x40A00000#32, 0x40C00000#32, 0x40E00000#32,
  0x41000000#32, 0x41100000#32, 0x41200000#32, 0x41300000#32, 0x41400000#32, 0x41500000#32, 0x41600000#32, 0x41700000#32,
  0x41800000#32, 0x41880000#32, 0x41900000#32, 0x41980000#32, 0x41A00000#32, 0x41A80000#32, 0x41B00000#32, 0x41B80000#32,
  0x41C00000#32, 0x41C80000#32, 0x41D00000#32, 0x41D80000#32, 0x41E00000#32, 0x41E80000#32, 0x41F00000#32, 0x41F80000#32,
  0x42000000#32, 0x42040000#32, 0x42080000#32, 0x420C0000#32, 0x42100000#32, 0x42140000#32, 0x42180000#32, 0x421C0000#32,
  0x42200000#32, 0x42240000#32, 0x42280000#32, 0x422C0000#32, 0x42300000#32, 0x42340000#32, 0x42380000#32, 0x423C0000#32,
  0x42400000#32, 0x42440000#32, 0x42480000#32, 0x424C0000#32, 0x42500000#32, 0x42540000#32, 0x42580000#32, 0x425C0000#32,
  0x42600000#32, 0x42640000#32, 0x42680000#32, 0x426C0000#32, 0x42700000#32, 0x42740000#32, 0x42780000#32, 0x427C0000#32]

/-- The number of row block `b`, in every lane. -/
def number (b : ℕ) : FVec F S8x8192 .f32 := broadcast S8x8192 (Scalar.ofBits .f32 (word (Fin.ofNat 64 b)))

/-- One pairing level of the values: of each pair the later where it is strictly smaller, else the earlier. -/
def best (g : ℕ → FVec F S8x8192 .f32) (k : ℕ) : FVec F S8x8192 .f32 :=
  select (cmpf .olt (g (2 * k + 1)) (g (2 * k))) (g (2 * k + 1)) (g (2 * k))

/-- The same level of the block numbers: the number that goes with the value taken. -/
def arg (g h : ℕ → FVec F S8x8192 .f32) (k : ℕ) : FVec F S8x8192 .f32 :=
  select (cmpf .olt (g (2 * k + 1)) (g (2 * k))) (h (2 * k + 1)) (h (2 * k))

/-- The winning value per lane, of the row blocks. -/
def val6 (D : FVec F S512x8192 .f32) : FVec F S8x8192 .f32 := best (best (best (best (best (best (rows D)))))) 0

/-- The winning block number per lane. -/
def num6 (D : FVec F S512x8192 .f32) : FVec F S8x8192 .f32 :=
  arg (best (best (best (best (best (rows D))))))
    (arg (best (best (best (best (rows D)))))
      (arg (best (best (best (rows D))))
        (arg (best (best (rows D))) (arg (best (rows D)) (arg (rows D) number))))) 0

/-- The row number of the winner per lane: eight times its block number and its row in the block. -/
def row8 (D : FVec F S512x8192 .f32) : FVec F S8x8192 .f32 :=
  addf (mulf (num6 D) (broadcast S8x8192 (Scalar.ofBits .f32 0x41000000#32)))
    (sitofp .f32 (iota .tc S8x8192 32 [0] iota_S8x8192_d0_w32))

/-- What the body stores, from the halves of the eight rows that remain. -/
def fin4 (v j : FVec F S8x8192 .f32) : IVec S8x1024 32 :=
  k0_pay1 (extractStridedSlice S4x8192 ![0, 0] v slices_S8x8192_o0_0_S4x8192)
    (extractStridedSlice S4x8192 ![4, 0] v slices_S8x8192_o4_0_S4x8192)
    (extractStridedSlice S4x8192 ![0, 0] j slices_S8x8192_o0_0_S4x8192)
    (extractStridedSlice S4x8192 ![4, 0] j slices_S8x8192_o4_0_S4x8192)
    (cmpf .olt (extractStridedSlice S4x8192 ![4, 0] v slices_S8x8192_o4_0_S4x8192)
      (extractStridedSlice S4x8192 ![0, 0] v slices_S8x8192_o0_0_S4x8192))
    (cmpf .oeq (extractStridedSlice S4x8192 ![4, 0] v slices_S8x8192_o4_0_S4x8192)
      (extractStridedSlice S4x8192 ![0, 0] v slices_S8x8192_o0_0_S4x8192))
    (cmpf .olt (extractStridedSlice S4x8192 ![4, 0] j slices_S8x8192_o4_0_S4x8192)
      (extractStridedSlice S4x8192 ![0, 0] j slices_S8x8192_o0_0_S4x8192))

/-- The output buffer after the body is the tournament's result, stored whole. -/
theorem out_eq (x0 : Vec F S32x8192 .f32) (x1 : Vec F S1x8192 .f32) (x2 : Vec F S32x512 .f32) (x3 : Vec F S1x512 .f32) :
    out0_4 x0 x1 x2 x3
      = View.canon [⟨r0_4, fin4 (val6 (k0_pay309 x0 x1 x2 x3)) (row8 (k0_pay309 x0 x1 x2 x3))⟩] := by
  rfl

end Cert.KernelIdeal.Tree
-- ==== Proof.Best.lean ====
/-
  The least of a family and its first place, carried through selections: what one step of a tournament keeps.
-/
module

public import Idealize.ShloMosaic.Lib.Pointwise

@[expose] public section

noncomputable section

namespace Cert.Proof.Best

/-- `k` is in `S`, and `d` is least on `S` at `k`, there for the first time. -/
def First (d : ℕ → EReal) (S : ℕ → Prop) (k : ℕ) : Prop :=
  S k ∧ ∀ k', S k' → d k < d k' ∨ d k = d k' ∧ k ≤ k'

/-- There is at most one such place. -/
theorem First.unique {d : ℕ → EReal} {S : ℕ → Prop} {a b : ℕ} (ha : First d S a) (hb : First d S b) : a = b := by
  rcases ha.2 b hb.1 with h | ⟨h, hab⟩
  · rcases hb.2 a ha.1 with h' | ⟨h', _⟩
    · exact absurd (h.trans h') (lt_irrefl _)
    · exact absurd h (by rw [h']; exact lt_irrefl _)
  · rcases hb.2 a ha.1 with h' | ⟨_, hba⟩
    · exact absurd h' (by rw [h]; exact lt_irrefl _)
    · exact le_antisymm hab hba

/-- Only the values on the set matter. -/
theorem First.congr {d d' : ℕ → EReal} {S : ℕ → Prop} {k : ℕ} (h : ∀ a, S a → d a = d' a) (hk : First d S k) :
    First d' S k :=
  ⟨hk.1, fun a ha => by rw [← h k hk.1, ← h a ha]; exact hk.2 a ha⟩

/-- `v` is the least value of `d` on `S`, and `j` its first place, as a number. -/
def Holds (d : ℕ → EReal) (S : ℕ → Prop) (v j : EReal) : Prop :=
  ∃ k : ℕ, First d S k ∧ v = d k ∧ j = (k : EReal)

/-- The set may be respelt. -/
theorem Holds.congr {d : ℕ → EReal} {S T : ℕ → Prop} {v j : EReal} (h : ∀ k, S k ↔ T k) (hs : Holds d S v j) :
    Holds d T v j := by
  have : S = T := funext fun k => propext (h k)
  exact this ▸ hs

/-- One place alone. -/
theorem Holds.single (d : ℕ → EReal) (k : ℕ) : Holds d (fun a => a = k) (d k) (k : EReal) :=
  ⟨k, ⟨rfl, fun a ha => Or.inr ⟨by rw [ha], le_of_eq ha.symm⟩⟩, rfl, rfl⟩

/-- Numbers compare as extended reals as they do as naturals. -/
theorem cast_lt {a b : ℕ} : (a : EReal) < (b : EReal) ↔ a < b := by
  exact_mod_cast Iff.rfl

/-- The better of two, the smaller value and at equal values the smaller place, is the best of both sets. -/
theorem Holds.lex {d : ℕ → EReal} {S T : ℕ → Prop} {v j v' j' : EReal} (hs : Holds d S v j) (ht : Holds d T v' j') :
    Holds d (fun k => S k ∨ T k) (if v' < v ∨ v' = v ∧ j' < j then v' else v)
      (if v' < v ∨ v' = v ∧ j' < j then j' else j) := by
  obtain ⟨a, ha, rfl, rfl⟩ := hs
  obtain ⟨b, hb, rfl, rfl⟩ := ht
  have key : (d b < d a ∨ d b = d a ∧ (b : EReal) < (a : EReal)) ↔ d b < d a ∨ d b = d a ∧ b < a := by rw [cast_lt]
  simp only [key]
  by_cases h : d b < d a ∨ d b = d a ∧ b < a
  · rw [if_pos h, if_pos h]
    refine ⟨b, ⟨Or.inr hb.1, fun k hk => hk.elim (fun hk => ?_) (hb.2 k)⟩, rfl, rfl⟩
    rcases h with h | ⟨h, hlt⟩
    · rcases ha.2 k hk with h' | ⟨h', _⟩
      · exact Or.inl (h.trans h')
      · exact Or.inl (h' ▸ h)
    · rcases ha.2 k hk with h' | ⟨h', hk'⟩
      · exact Or.inl (h ▸ h')
      · exact Or.inr ⟨h.trans h', (hlt.trans_le hk').le⟩
  · rw [if_neg h, if_neg h]
    refine ⟨a, ⟨Or.inl ha.1, fun k hk => hk.elim (ha.2 k) (fun hk => ?_)⟩, rfl, rfl⟩
    have hab : d a < d b ∨ d a = d b ∧ a ≤ b := by
      rcases lt_trichotomy (d a) (d b) with h' | h' | h'
      · exact Or.inl h'
      · exact Or.inr ⟨h', not_lt.1 fun hlt => h (Or.inr ⟨h'.symm, hlt⟩)⟩
      · exact absurd (Or.inl h') h
    rcases hab with h | ⟨h, hle⟩
    · rcases hb.2 k hk with h' | ⟨h', _⟩
      · exact Or.inl (h.trans h')
      · exact Or.inl (h' ▸ h)
    · rcases hb.2 k hk with h' | ⟨h', hk'⟩
      · exact Or.inl (h ▸ h')
      · exact Or.inr ⟨h.trans h', hle.trans hk'⟩

/-- Where every place of the first set comes before every place of the second, the smaller value decides alone. -/
theorem Holds.step {d : ℕ → EReal} {S T : ℕ → Prop} {v j v' j' : EReal} (hs : Holds d S v j) (ht : Holds d T v' j')
    (hlt : ∀ a b, S a → T b → a < b) :
    Holds d (fun k => S k ∨ T k) (if v' < v then v' else v) (if v' < v then j' else j) := by
  have key : (v' < v ∨ v' = v ∧ j' < j) ↔ v' < v := by
    refine ⟨fun h => h.elim id fun h => ?_, Or.inl⟩
    obtain ⟨a, ha, _, rfl⟩ := hs
    obtain ⟨b, hb, _, rfl⟩ := ht
    exact absurd (cast_lt.1 h.2) (not_lt.2 (hlt a b ha.1 hb.1).le)
  have h := hs.lex ht
  simp only [key] at h
  exact h

end Cert.Proof.Best

end
-- ==== Proof.Words.lean ====
/-
  The kernel's float constants as numbers, and a number's conversion to a word.
-/
module

public import proofs.«01_k».proof.Proof.Tree
public import Idealize.ShloMosaic.Lib.Pointwise
public import Idealize.ShloMosaic.Lib.IdealHost

@[expose] public section

set_option maxRecDepth 16384

noncomputable section

namespace Cert.Proof.Words

open Idealize.ShloMosaic Cert.KernelIdeal.Tree

/-- The word of a block number denotes that number. -/
theorem ofBits_word (b : Fin 64) : Ideal.ofBits .f32 (word b) = ((b.val : ℕ) : EReal) := by
  rw [show ((b.val : ℕ) : EReal) = ((b.val : ℝ) : EReal) by norm_cast]
  fin_cases b <;> (simp [word, Ideal.ofBits, Ideal.ieee, -EReal.coe_mul, -EReal.coe_natCast]; try norm_num)

/-- The constant eight. -/
theorem ofBits_eight : Ideal.ofBits .f32 0x41000000#32 = ((8 : ℝ) : EReal) := by
  simp [Ideal.ofBits, Ideal.ieee, -EReal.coe_mul]; norm_num

/-- The constant two. -/
theorem ofBits_two : Ideal.ofBits .f32 0x40000000#32 = ((2 : ℝ) : EReal) := by
  simp [Ideal.ofBits, Ideal.ieee, -EReal.coe_mul]; norm_num

/-- The constant minus two. -/
theorem ofBits_neg_two : Ideal.ofBits .f32 0xC0000000#32 = ((-2 : ℝ) : EReal) := by
  simp [Ideal.ofBits, Ideal.ieee, -EReal.coe_mul, -EReal.coe_neg]; norm_num

/-- The constant plus infinity. -/
theorem ofBits_inf : Ideal.ofBits .f32 0x7F800000#32 = ⊤ := by
  simp [Ideal.ofBits, Ideal.ieee]

/-- A row number converts to its own word. -/
theorem fptosi_nat (k : ℕ) (hk : k < 512) : Ideal.fptosi 32 (k : EReal) = BitVec.ofNat 32 k := by
  rw [show ((k : ℕ) : EReal) = ((k : ℝ) : EReal) by norm_cast, Ideal.fptosi, Ideal.toIntClamped_coe]
  rw [if_pos (Nat.cast_nonneg k), Int.floor_natCast]
  have h : max (-(2 ^ (32 - 1) : ℕ) : ℤ) (min (((2 ^ (32 - 1) : ℕ) : ℤ) - 1) (k : ℤ)) = (k : ℤ) := by
    norm_num; omega
  rw [h]
  exact BitVec.ofInt_natCast _ _

end Cert.Proof.Words

end
-- ==== Proof.Lane.lean ====
/-
  What the tournament leaves in a lane: the least distance of that column over the lane's rows, and its first row.
-/
module

public import proofs.«01_k».proof.Proof.Tree
public import proofs.«01_k».proof.Proof.Best
public import proofs.«01_k».proof.Proof.Words

@[expose] public section

set_option maxRecDepth 16384

noncomputable section

namespace Cert.KernelIdeal.Lane

open Idealize.ShloMosaic Idealize.SL.Sem
open Cert.KernelIdeal Cert.KernelIdeal.Gen Cert.KernelIdeal.Tree Cert.Proof.Best Cert.Proof.Words

/-- A column of the distance array, by row number. -/
def col (D : FVec Ideal S512x8192 .f32) (r : Fin 8192) (k : ℕ) : EReal := D (ix2 (Fin.ofNat 512 k) r)

/-- A selection under the comparison by value and then by number. -/
theorem select_lex (a b c d x y : EReal) :
    (Scalar.select (IntOp.ori (BitVec.ofBool (decide (a < b)))
        (IntOp.andi (BitVec.ofBool (decide (a = b))) (BitVec.ofBool (decide (c < d))))) x y : EReal)
      = if a < b ∨ a = b ∧ c < d then x else y := by
  by_cases h : a < b <;> by_cases h' : a = b <;> by_cases h'' : c < d <;>
    simp [h, h', h'', Scalar.select, IntOp.ori, IntOp.andi]

/-- One pairing level keeps what it pairs: from runs of `n` row blocks to runs of `2n`. -/
theorem level {g h : ℕ → FVec Ideal S8x8192 .f32} {e : ℕ → EReal} {n : ℕ} {s : Fin 8} {r : Fin 8192}
    (H : ∀ k, (k + 1) * n ≤ 64 → Holds e (fun b => k * n ≤ b ∧ b < (k + 1) * n) (g k (ix2 s r)) (h k (ix2 s r))) :
    ∀ k, (k + 1) * (2 * n) ≤ 64 →
      Holds e (fun b => k * (2 * n) ≤ b ∧ b < (k + 1) * (2 * n)) (best g k (ix2 s r)) (arg g h k (ix2 s r)) := by
  intro k hk
  have e0 : 2 * k * n = k * (2 * n) := by ring
  have e1 : (2 * k + 1) * n = k * (2 * n) + n := by ring
  have e2 : (2 * k + 1 + 1) * n = (k + 1) * (2 * n) := by ring
  have e3 : (k + 1) * (2 * n) = k * (2 * n) + 2 * n := by ring
  have h0 := H (2 * k) (by omega)
  have h1 := H (2 * k + 1) (by omega)
  have key := (h0.step h1 fun a b ha hb => by omega).congr
    (T := fun b => k * (2 * n) ≤ b ∧ b < (k + 1) * (2 * n)) fun b => by omega
  have ev : best g k (ix2 s r) = if g (2 * k + 1) (ix2 s r) < g (2 * k) (ix2 s r) then g (2 * k + 1) (ix2 s r)
      else g (2 * k) (ix2 s r) := by
    pointwise [best]
  have ej : arg g h k (ix2 s r) = if g (2 * k + 1) (ix2 s r) < g (2 * k) (ix2 s r) then h (2 * k + 1) (ix2 s r)
      else h (2 * k) (ix2 s r) := by
    pointwise [arg]
  rw [ev, ej]
  exact key

/-- A row block at a lane. -/
theorem rows_lane (D : FVec Ideal S512x8192 .f32) (b : ℕ) (hb : b < 64) (s : Fin 8) (r : Fin 8192) :
    rows D b (ix2 s r) = col D r (8 * b + s.val) := by
  pointwise [rows, col]
  have hs := s.isLt
  congr 2
  apply Fin.ext
  simp only [Fin.val_ofNat]
  omega

/-- A block's number at a lane. -/
theorem number_lane (b : ℕ) (hb : b < 64) (s : Fin 8) (r : Fin 8192) :
    number (F := Ideal) b (ix2 s r) = (b : EReal) := by
  have h := ofBits_word (Fin.ofNat 64 b)
  rw [Fin.val_ofNat, Nat.mod_eq_of_lt hb] at h
  exact h

/-- After the six levels: the best row block of the sixty-four. -/
theorem blocks (D : FVec Ideal S512x8192 .f32) (s : Fin 8) (r : Fin 8192) :
    Holds (fun b => col D r (8 * b + s.val)) (fun b => b < 64) (val6 D (ix2 s r)) (num6 D (ix2 s r)) := by
  have h0 : ∀ k, (k + 1) * 1 ≤ 64 → Holds (fun b => col D r (8 * b + s.val)) (fun b => k * 1 ≤ b ∧ b < (k + 1) * 1)
      (rows D k (ix2 s r)) (number (F := Ideal) k (ix2 s r)) := by
    intro k hk
    rw [rows_lane D k (by omega), number_lane k (by omega)]
    exact (Holds.single (fun b => col D r (8 * b + s.val)) k).congr fun b => by omega
  exact (level (level (level (level (level (level h0))))) 0 (by norm_num)).congr fun b => by omega

/-- A small whole number becomes itself as a float. -/
theorem sitofp_nat (s : ℕ) (hs : s < 512) :
    (FloatOps.sitofp .f32 (BitVec.ofNat 32 s) : Ideal .f32) = ((s : ℝ) : EReal) := by
  have h : (BitVec.ofNat 32 s).toInt = (s : ℤ) := by
    rw [BitVec.toInt_eq_toNat_of_lt (by rw [BitVec.toNat_ofNat]; omega), BitVec.toNat_ofNat, Nat.mod_eq_of_lt (by omega)]
  have e : (FloatOps.sitofp .f32 (BitVec.ofNat 32 s) : Ideal .f32) = (((BitVec.ofNat 32 s).toInt : ℝ) : EReal) := rfl
  rw [e, h]
  norm_cast

/-- Eight rows to a block. -/
theorem eight_mul (b s : ℕ) : (b : EReal) * ((8 : ℝ) : EReal) + ((s : ℝ) : EReal) = ((8 * b + s : ℕ) : EReal) := by
  rw [show (b : EReal) = ((b : ℝ) : EReal) by norm_cast, ← EReal.coe_mul, ← EReal.coe_add,
    show ((8 * b + s : ℕ) : EReal) = (((8 * b + s : ℕ) : ℝ) : EReal) by norm_cast]
  congr 1
  push_cast
  ring

/-- In row numbers: the best of the rows that the lane stands for. -/
theorem rows8 (D : FVec Ideal S512x8192 .f32) (s : Fin 8) (r : Fin 8192) :
    Holds (col D r) (fun k => k < 512 ∧ k % 8 = s.val) (val6 D (ix2 s r)) (row8 D (ix2 s r)) := by
  obtain ⟨b, ⟨hb, hmin⟩, hv, hj⟩ := blocks D s r
  have hs := s.isLt
  have ej : row8 D (ix2 s r) = ((8 * b + s.val : ℕ) : EReal) := by
    pointwise [row8]
    rw [hj, ofBits_eight, sitofp_nat s.val (by omega)]
    exact eight_mul b s.val
  refine ⟨8 * b + s.val, ⟨⟨by omega, by omega⟩, fun k hk => ?_⟩, hv, ej⟩
  have hk' : k = 8 * (k / 8) + s.val := by omega
  dsimp only at hk hmin
  have h := hmin (k / 8) (by omega)
  rw [← hk'] at h
  rcases h with h | ⟨h, hle⟩
  · exact Or.inl h
  · exact Or.inr ⟨h, by omega⟩

/-- The better of two lanes' values, by value and then by number. -/
def sv (v j v' j' : EReal) : EReal :=
  Scalar.select (IntOp.ori (BitVec.ofBool (decide (v' < v)))
    (IntOp.andi (BitVec.ofBool (decide (v' = v))) (BitVec.ofBool (decide (j' < j))))) v' v

/-- The number that goes with it. -/
def sj (v j v' j' : EReal) : EReal :=
  Scalar.select (IntOp.ori (BitVec.ofBool (decide (v' < v)))
    (IntOp.andi (BitVec.ofBool (decide (v' = v))) (BitVec.ofBool (decide (j' < j))))) j' j

/-- Halving keeps what it halves: from residues modulo `2n` to residues modulo `n`. -/
theorem halve {d : ℕ → EReal} {n s : ℕ} {v j v' j' : EReal} (hs : s < n)
    (h : Holds d (fun k => k < 512 ∧ k % (2 * n) = s) v j)
    (h' : Holds d (fun k => k < 512 ∧ k % (2 * n) = s + n) v' j') :
    Holds d (fun k => k < 512 ∧ k % n = s) (sv v j v' j') (sj v j v' j') := by
  unfold sv sj
  rw [select_lex, select_lex]
  refine (h.lex h').congr fun k => ?_
  have e : k % n = k % (2 * n) % n := (Nat.mod_mod_of_dvd k (Dvd.intro_left 2 rfl)).symm
  have hlt : k % (2 * n) < 2 * n := Nat.mod_lt _ (by omega)
  have e' : k % (2 * n) % n = if k % (2 * n) < n then k % (2 * n) else k % (2 * n) - n := by
    split
    · next hl => exact Nat.mod_eq_of_lt hl
    · next hl => rw [Nat.mod_eq_sub_mod (by omega), Nat.mod_eq_of_lt (by omega)]
  rw [e, e']
  split <;> omega

/-- What the body stores at an element, over the eight lanes of its column. -/
theorem fin4_apply (v j : FVec Ideal S8x8192 .f32) (a : Fin 8) (c : Fin 1024) (r : Fin 8192) (hr : r.val = a.val * 1024 + c.val) :
    fin4 v j (ix2 a c) = Ideal.fptosi 32
      (let V := fun s : Fin 8 => v (ix2 s r)
       let J := fun s : Fin 8 => j (ix2 s r)
       let V4 := fun s t : Fin 8 => sv (V s) (J s) (V t) (J t)
       let J4 := fun s t : Fin 8 => sj (V s) (J s) (V t) (J t)
       let V2 := fun s t p q : Fin 8 => sv (V4 s t) (J4 s t) (V4 p q) (J4 p q)
       let J2 := fun s t p q : Fin 8 => sj (V4 s t) (J4 s t) (V4 p q) (J4 p q)
       sj (V2 0 4 2 6) (J2 0 4 2 6) (V2 1 5 3 7) (J2 1 5 3 7)) := by
  have hlt : a.val * 1024 + c.val < 8192 := by
    clear hr
    have := a.isLt
    have := c.isLt
    omega
  have er : r = ⟨a.val * 1024 + c.val, hlt⟩ := Fin.ext hr
  rw [er]
  pointwise [fin4, k0_pay1]
  rfl

/-- The body stores, at each element, the row number of the least distance of its column, the first at a tie. -/
theorem stored (D : FVec Ideal S512x8192 .f32) (a : Fin 8) (c : Fin 1024) (r : Fin 8192) (hr : r.val = a.val * 1024 + c.val) :
    ∃ k, First (col D r) (fun k => k < 512) k ∧ fin4 (val6 D) (row8 D) (ix2 a c) = BitVec.ofNat 32 k := by
  have h8 := fun s : Fin 8 => rows8 D s r
  rw [fin4_apply _ _ a c r hr]
  generalize val6 D = v at h8 ⊢
  generalize row8 D = j at h8 ⊢
  have q0 := halve (n := 4) (s := 0) (by omega) (h8 0) (h8 4)
  have q1 := halve (n := 4) (s := 1) (by omega) (h8 1) (h8 5)
  have q2 := halve (n := 4) (s := 2) (by omega) (h8 2) (h8 6)
  have q3 := halve (n := 4) (s := 3) (by omega) (h8 3) (h8 7)
  have p0 := halve (n := 2) (s := 0) (by omega) q0 q2
  have p1 := halve (n := 2) (s := 1) (by omega) q1 q3
  obtain ⟨k, hk, -, hj⟩ := (halve (n := 1) (s := 0) (by omega) p0 p1).congr (T := fun k => k < 512) fun k => by omega
  refine ⟨k, hk, ?_⟩
  rw [← fptosi_nat k hk.1]
  exact congrArg (Ideal.fptosi 32) hj

end Cert.KernelIdeal.Lane

end
-- ==== Proof.RefRun.lean ====
/-
  The reference's run: its straight line of host operations, and what its result array holds at the end.
-/
module

public import proofs.«01_k».proof.Proof.Gen.ReferenceIdeal
public import Idealize.ShloMosaic.Lib.StableHlo.Run
public import Idealize.ShloMosaic.Lib.Quiescent
public import Idealize.ShloMosaic.Lib.Tactic.CleanTypes

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- The points as rows. -/
def flat (x : FVec F S16x1024x32 .f32) : FVec F S16384x32 .f32 :=
  shapeCast S16384x32 x shapeCasts_S16x1024x32_S16384x32

/-- The reference's distances: a row per point, a column per codebook entry. -/
def dist (x : FVec F S16x1024x32 .f32) (C : FVec F S32x512 .f32) (N : FVec F S1x512 .f32) : FVec F S16384x512 .f32 :=
  addf
    (subf
      (broadcastInDim S16384x512 ![0, 1] bcast_S16384x1_S16384x512_0_1
        (broadcastInDim S16384x1 ![0] bcast_S16384_S16384x1_0
          (Host.reduceAdd (mulf (flat x) (flat x)) (constant S_ .f32 0x00000000#32) reducesTo_S16384x32_S16384_d1 h_S_)))
      (mulf (broadcastInDim S16384x512 ![] bcast_S_S16384x512 (constant S_ .f32 0x40000000#32))
        (Host.dotGeneral dot_S16384x32_S32x512_S16384x512_1_0_0_1_n_n none (flat x) C)))
    (broadcastInDim S16384x512 ![0, 1] bcast_S1x512_S16384x512_0_1 N)

/-- The second of each pair that a reduction of two arrays leaves. -/
def second {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) :
    IVec t 32 := fun j => (Host.argReduce f x y ix iy h hu j).2

/-- The column of each row's least entry, as the reference takes it. -/
def least (D : FVec F S16384x512 .f32) : IVec S16384 32 :=
  second reducer_argmin_f32_i32 D (iotaInDim S16384x512 32 1) (constant S_ .f32 0x7F800000#32) (constantI S_ 32 0#32)
    reducesTo_S16384x512_S16384_d1 h_S_

/-- The reference's result. -/
def out (x : FVec F S16x1024x32 .f32) (C : FVec F S32x512 .f32) (N : FVec F S1x512 .f32) : IVec S16x1024 32 :=
  shapeCast S16x1024 (least (dist x C N)) shapeCasts_S16384_S16x1024

/-- The reference's operations, in order, the call of its one function written in its place. -/
abbrev ops : List (HloOp τ sig (Elt F)) :=
  [ reshape main_arg0 main_v0 (rfl : (.f32 : EltTy) = .f32) shapeCasts_S16x1024x32_S16384x32,
    binary main_v0 main_v0 main_v1 mulf,
    nullary main_cst (constant S_ .f32 0x00000000#32),
    binary main_v1 main_cst main_v2 (fun x v => Host.reduceAdd x v reducesTo_S16384x32_S16384_d1 h_S_),
    unary main_v2 main_v3 (broadcastInDim S16384x1 ![0] bcast_S16384_S16384x1_0),
    binary main_v0 main_arg1 main_v4 (fun l r => Host.dotGeneral dot_S16384x32_S32x512_S16384x512_1_0_0_1_n_n none l r),
    nullary main_cst_0 (constant S_ .f32 0x40000000#32),
    unary main_cst_0 main_v5 (broadcastInDim S16384x512 ![] bcast_S_S16384x512),
    binary main_v5 main_v4 main_v6 mulf,
    unary main_v3 main_v7 (broadcastInDim S16384x512 ![0, 1] bcast_S16384x1_S16384x512_0_1),
    binary main_v7 main_v6 main_v8 subf,
    unary main_arg2 main_v9 (broadcastInDim S16384x512 ![0, 1] bcast_S1x512_S16384x512_0_1),
    binary main_v8 main_v9 main_v10 addf,
    nullary main_call0_v0 (iotaInDim S16384x512 32 1),
    nullary main_call0_cst (constant S_ .f32 0x7F800000#32),
    nullary main_call0_c (constantI S_ 32 0#32),
    quaternary main_v10 main_call0_v0 main_call0_cst main_call0_c main_call0_v1_0
      (fun x y u v j => (Host.argReduce reducer_argmin_f32_i32 x y u v reducesTo_S16384x512_S16384_d1 h_S_ j).1),
    quaternary main_v10 main_call0_v0 main_call0_cst main_call0_c main_v11
      (fun x y u v j => (Host.argReduce reducer_argmin_f32_i32 x y u v reducesTo_S16384x512_S16384_d1 h_S_ j).2),
    reshape main_v11 main_v12 (rfl : (.i32 : EltTy) = .i32) shapeCasts_S16384_S16x1024 ]

/-- The reference is that straight line. -/
theorem main_eq (c : Dev nD) : main (F := F) c = seq ops := rfl

/-- Reading an array through a type equation of its elements with themselves changes nothing. -/
theorem recast {s : Shape} (e : EltTy) (h : e = e) (f : s.Idx → Elt F e) :
    (fun i => (h ▸ f i : Elt F e)) = f := rfl

/-- The result array after the line. -/
theorem out_eq (V : Valuation τ sig (Elt F)) :
    after ops V (main_v12 : DevRef τ sig)
      = out (V (main_arg0 : DevRef τ sig)) (V (main_arg1 : DevRef τ sig)) (V (main_arg2 : DevRef τ sig)) := by
  after_results
  unfold out least second dist flat
  clean_types
  refine (recast .i32 rfl _).trans ?_
  refine congrArg (fun D : FVec F S16384x512 .f32 => shapeCast S16x1024 (least D) shapeCasts_S16384_S16x1024) ?_
  refine congrArg₂ (fun a b : FVec F S16384x32 .f32 => addf (subf (broadcastInDim S16384x512 ![0, 1] bcast_S16384x1_S16384x512_0_1
        (broadcastInDim S16384x1 ![0] bcast_S16384_S16384x1_0
          (Host.reduceAdd (mulf a a) (constant S_ .f32 0x00000000#32) reducesTo_S16384x32_S16384_d1 h_S_)))
      (mulf (broadcastInDim S16384x512 ![] bcast_S_S16384x512 (constant S_ .f32 0x40000000#32))
        (Host.dotGeneral dot_S16384x32_S32x512_S16384x512_1_0_0_1_n_n none b (V (main_arg1 : DevRef τ sig)))))
    (broadcastInDim S16384x512 ![0, 1] bcast_S1x512_S16384x512_0_1 (V (main_arg2 : DevRef τ sig)))) ?_ ?_
  · exact recast .f32 rfl _
  · exact recast .f32 rfl _

/-- No operation writes an argument. -/
theorem arg0_eq (V : Valuation τ sig (Elt F)) :
    after ops V (main_arg0 : DevRef τ sig) = V (main_arg0 : DevRef τ sig) := by
  after_results
theorem arg1_eq (V : Valuation τ sig (Elt F)) :
    after ops V (main_arg1 : DevRef τ sig) = V (main_arg1 : DevRef τ sig) := by
  after_results
theorem arg2_eq (V : Valuation τ sig (Elt F)) :
    after ops V (main_arg2 : DevRef τ sig) = V (main_arg2 : DevRef τ sig) := by
  after_results

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches the core's references only. -/
theorem ops_sub : (ops : List (HloOp τ sig (Elt F))).Forall fun op => op.bufs ⊆ tcRefs τ sig :=
  ⟨reshape_bufs_sub .., binary_bufs_sub .., nullary_bufs_sub .., binary_bufs_sub .., unary_bufs_sub ..,
    binary_bufs_sub .., nullary_bufs_sub .., unary_bufs_sub .., binary_bufs_sub .., unary_bufs_sub ..,
    binary_bufs_sub .., unary_bufs_sub .., binary_bufs_sub .., nullary_bufs_sub .., nullary_bufs_sub ..,
    nullary_bufs_sub .., quaternary_bufs_sub .., quaternary_bufs_sub .., reshape_bufs_sub ..⟩

/-- The reference's run: its result array ends at `out` of the arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v12)
          = out (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v12).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.Proof.RefRun

end
-- ==== Proof.Distance.lean ====
/-
  The two ways of writing a point's distance to a codebook entry, over plain numbers: the kernel's and the reference's,
  and their equality where the points and the codebook are finite.
-/
module

public import proofs.«01_k».proof.Proof.RefRun
public import proofs.«01_k».proof.Proof.Words
public import Idealize.ShloMosaic.Lib.Pointwise

@[expose] public section

set_option maxRecDepth 16384

noncomputable section

namespace Cert.Proof.Distance

open Cert.ReferenceIdeal
open Idealize.ShloMosaic
open Cert.Proof.Words

/-- Coordinate `d` of point `n`, the points counted row after row. -/
def pt (x : FVec Ideal S16x1024x32 .f32) (n : Fin 16384) (d : Fin 32) : EReal :=
  x (ix3 ⟨n.val / 1024, by have := n.isLt; omega⟩ ⟨n.val % 1024, Nat.mod_lt _ (by omega)⟩ d)

/-- The kernel's distance: the codebook is scaled by minus two before the contraction. -/
def kern (x : FVec Ideal S16x1024x32 .f32) (C : FVec Ideal S32x512 .f32) (N : FVec Ideal S1x512 .f32) (n : Fin 16384) (k : ℕ) : EReal :=
  (∑ d, pt x n d * pt x n d) + (∑ d : Fin 32, C (ix2 d (Fin.ofNat 512 k)) * ((-2 : ℝ) : EReal) * pt x n d) + N (ix2 0 (Fin.ofNat 512 k))

/-- The reference's distance: twice the contraction is subtracted. -/
def refn (x : FVec Ideal S16x1024x32 .f32) (C : FVec Ideal S32x512 .f32) (N : FVec Ideal S1x512 .f32) (n : Fin 16384) (k : ℕ) : EReal :=
  (∑ d, pt x n d * pt x n d) - ((2 : ℝ) : EReal) * (∑ d : Fin 32, pt x n d * C (ix2 d (Fin.ofNat 512 k))) + N (ix2 0 (Fin.ofNat 512 k))

/-- The reference's array of distances holds `refn`. -/
theorem dist_apply (x : FVec Ideal S16x1024x32 .f32) (C : FVec Ideal S32x512 .f32) (N : FVec Ideal S1x512 .f32) (n : Fin 16384) (k : ℕ) :
    RefRun.dist x C N (ix2 n (Fin.ofNat 512 k)) = refn x C N n k := by
  generalize hK : Fin.ofNat 512 k = K
  pointwise [RefRun.dist, RefRun.flat]
  rw [ofBits_two]
  unfold refn
  rw [hK]
  rfl

/-- A finite sum of real numbers is the same among the extended reals. -/
theorem coe_sum {n : ℕ} (f : Fin n → ℝ) : ((∑ d, f d : ℝ) : EReal) = ∑ d, (f d : EReal) :=
  map_sum (⟨⟨Real.toEReal, EReal.coe_zero⟩, EReal.coe_add⟩ : ℝ →+ EReal) f Finset.univ

/-- Where the points and the codebook are finite the two distances are equal, whatever the norms. -/
theorem kern_eq_refn (x : FVec Ideal S16x1024x32 .f32) (C : FVec Ideal S32x512 .f32) (N : FVec Ideal S1x512 .f32)
    (hx : ∀ i, ∃ a : ℝ, x i = (a : EReal)) (hC : ∀ i, ∃ a : ℝ, C i = (a : EReal)) (n : Fin 16384) (k : ℕ) :
    kern x C N n k = refn x C N n k := by
  obtain ⟨p, hp⟩ : ∃ p : Fin 32 → ℝ, ∀ d, pt x n d = (p d : EReal) :=
    ⟨fun d => (hx _).choose, fun d => (hx _).choose_spec⟩
  obtain ⟨q, hq⟩ : ∃ q : Fin 32 → ℝ, ∀ d, C (ix2 d (Fin.ofNat 512 k)) = (q d : EReal) :=
    ⟨fun d => (hC _).choose, fun d => (hC _).choose_spec⟩
  have e : (∑ d : Fin 32, ((q d : ℝ) : EReal) * ((-2 : ℝ) : EReal) * ((p d : ℝ) : EReal))
      = ((-(2 * ∑ d, p d * q d) : ℝ) : EReal) := by
    have h1 : ∀ d, ((q d : ℝ) : EReal) * ((-2 : ℝ) : EReal) * ((p d : ℝ) : EReal) = ((q d * -2 * p d : ℝ) : EReal) := fun d => by
      rw [EReal.coe_mul, EReal.coe_mul]
    rw [Finset.sum_congr rfl fun d _ => h1 d, ← coe_sum, Finset.mul_sum, ← Finset.sum_neg_distrib]
    congr 1
    exact Finset.sum_congr rfl fun d _ => by ring
  have e' : ((2 : ℝ) : EReal) * (∑ d : Fin 32, ((p d : ℝ) : EReal) * ((q d : ℝ) : EReal)) = ((2 * ∑ d, p d * q d : ℝ) : EReal) := by
    rw [Finset.sum_congr rfl fun d _ => (EReal.coe_mul (p d) (q d)).symm, ← coe_sum, ← EReal.coe_mul]
  unfold kern refn
  simp only [hp, hq]
  rw [e, e', EReal.coe_neg, sub_eq_add_neg]

end Cert.Proof.Distance

end
-- ==== Proof.Stored.lean ====
/-
  What the kernel's result array holds: at each element, the number of the codebook entry of least distance, the first
  at a tie.
-/
module

public import proofs.«01_k».proof.Proof.Lane
public import proofs.«01_k».proof.Proof.Distance
public import Idealize.ShloMosaic.Lib.Pipeline.ValueKit
public import Idealize.ShloMosaic.Lib.Claim

@[expose] public section

set_option maxRecDepth 16384

noncomputable section

namespace Cert.KernelIdeal.Stored

open Cert.KernelIdeal Cert.KernelIdeal.Gen Cert.KernelIdeal.Tree Cert.KernelIdeal.Lane
open Idealize.ShloMosaic Idealize.ShloMosaic.TcCoe Idealize.SL.Sem
open Cert.Proof.Best Cert.Proof.Words Cert.Proof.Distance

variable (m : (ℓ : Loc nD τ sig) → Buf (Elt Ideal) ℓ) (ρ : Dev nD → PrngReg)

/-- Where each window's block stands at a point of the grid. -/
theorem idx : ∀ t : Fin cfg0.N, win0_0.index t = ![0, t.val] ∧ win0_1.index t = ![0, t.val]
    ∧ win0_2.index t = ![0, 0] ∧ win0_3.index t = ![0, 0] ∧ win0_4.index t = ![t.val, 0] :=
  (by decide +kernel : ∀ t : Fin grid0.N, _)

/-- The points' number at a lane of a block. -/
def at' (t : Fin cfg0.N) (r : Fin 8192) : Fin 16384 :=
  ⟨t.val * 8192 + r.val, by have h : t.val < 2 := t.isLt; have := r.isLt; omega⟩

/-- The first input's block: the block's points, a column each. -/
theorem blk0 (c : Dev nD) (t : Fin cfg0.N) (d : Fin 32) (r : Fin 8192) :
    (iblk m c 0 t (ix2 d r) : EReal) = pt (m ((c.tc : Thread nD τ).loc main_arg0)) (at' t r) d := by
  blk_simp [iblk]
  entry_read
  pointwise
  unfold pt at'
  blk_ext [idx t]

/-- The second input's block: the points' squared lengths. -/
theorem blk1 (c : Dev nD) (t : Fin cfg0.N) (r : Fin 8192) :
    (iblk m c 1 t (ix2 (0 : Fin 1) r) : EReal)
      = ∑ d, pt (m ((c.tc : Thread nD τ).loc main_arg0)) (at' t r) d * pt (m ((c.tc : Thread nD τ).loc main_arg0)) (at' t r) d := by
  blk_simp [iblk]
  entry_read
  pointwise
  unfold pt at'
  refine Finset.sum_congr (M := EReal) rfl fun d _ => ?_
  refine congrArg₂ (fun a b : EReal => a * b) ?_ ?_ <;> blk_ext [idx t]

/-- The third input's block: the codebook. -/
theorem blk2 (c : Dev nD) (t : Fin cfg0.N) (d : Fin 32) (k : Fin 512) :
    (iblk m c 2 t (ix2 d k) : EReal) = m ((c.tc : Thread nD τ).loc main_arg1) (ix2 d k) := by
  blk_simp [iblk]
  rw [V_main_arg1]
  blk_ext [idx t]

/-- The fourth input's block: the norms. -/
theorem blk3 (c : Dev nD) (t : Fin cfg0.N) (k : Fin 512) :
    (iblk m c 3 t (ix2 (0 : Fin 1) k) : EReal) = m ((c.tc : Thread nD τ).loc main_arg2) (ix2 0 k) := by
  blk_simp [iblk]
  rw [V_main_arg2]
  blk_ext [idx t]

/-- The distances that the body forms from a block are the kernel's distances of the block's points. -/
theorem col_apply (c : Dev nD) (t : Fin cfg0.N) (r : Fin 8192) (k : ℕ) :
    col (k0_pay309 (iblk m c 0 t) (iblk m c 1 t) (iblk m c 2 t) (iblk m c 3 t)) r k
      = kern (m ((c.tc : Thread nD τ).loc main_arg0)) (m ((c.tc : Thread nD τ).loc main_arg1))
          (m ((c.tc : Thread nD τ).loc main_arg2)) (at' t r) k := by
  unfold col kern
  generalize Fin.ofNat 512 k = K
  rw [← blk1 m c t r, ← blk3 m c t K]
  simp only [← blk0 m c t, ← blk2 m c t]
  pointwise [k0_pay309, k0_pay2]
  rw [ofBits_neg_two]

theorem hz : (![0, 0] : Fin 2 → Nat) = fun _ => 0 := funext fun a => by fin_cases a <;> rfl

/-- Any array that holds, at every point, the first entry of least distance is what the kernel leaves. -/
theorem final (c : Dev nD) (G : IVec S16x1024 32)
    (hG : ∀ (p : Fin 16) (q : Fin 1024), ∃ k, First (kern (m ((c.tc : Thread nD τ).loc main_arg0))
        (m ((c.tc : Thread nD τ).loc main_arg1)) (m ((c.tc : Thread nD τ).loc main_arg2))
        ⟨p.val * 1024 + q.val, by have := p.isLt; have := q.isLt; omega⟩) (fun k => k < 512) k
      ∧ G (ix2 p q) = BitVec.ofNat 32 k) :
    (dats m 0 c).arrAt 4 cfg0.N = G := by
  refine (dats m 0 c).arrAt_eq_of_covers 4 _ (by decide +kernel) fun t hf y => ?_
  blk_simp
  rw [after0_4, out_eq, View.canon_unit_zero hz]
  have ht : t.val < 2 := t.isLt
  obtain ⟨a, b, rfl⟩ : ∃ (a : Fin 8) (b : Fin 1024), y = ix2 a b := ⟨y 0, y 1, by funext i; fin_cases i <;> rfl⟩
  have ha := a.isLt
  have hb := b.isLt
  obtain ⟨k, hk, e⟩ := stored (k0_pay309 (iblk m c 0 t) (iblk m c 1 t) (iblk m c 2 t) (iblk m c 3 t)) a b
    ⟨a.val * 1024 + b.val, by omega⟩ rfl
  obtain ⟨k', hk', e'⟩ := hG ⟨t.val * 8 + a.val, by omega⟩ b
  have hemb : ((win0_4.blk t).view.emb (ix2 a b)) = ix2 ⟨t.val * 8 + a.val, by omega⟩ b := by
    blk_ext [idx t]
  refine e.trans ?_
  refine Eq.trans ?_ (congrArg G hemb).symm
  rw [e']
  refine congrArg (BitVec.ofNat 32) (hk.congr (d' := _) (fun j _ => ?_) |>.unique hk')
  rw [col_apply]
  refine congrArg (fun n => kern _ _ _ n j) (Fin.ext ?_)
  show t.val * 8192 + (a.val * 1024 + b.val) = (t.val * 8 + a.val) * 1024 + b.val
  ring

end Cert.KernelIdeal.Stored

end
-- ==== Proof.RefValue.lean ====
/-
  The reference's result: its reduction leaves, at every point, the first column of the least distance.
-/
module

public import proofs.«01_k».proof.Proof.RefRun
public import proofs.«01_k».proof.Proof.Best
public import proofs.«01_k».proof.Proof.Words
public import Idealize.ShloMosaic.Lib.Pointwise

@[expose] public section

set_option maxRecDepth 16384

noncomputable section

namespace Cert.Proof.RefValue

open Cert.ReferenceIdeal Cert.ReferenceIdeal.Gen
open Idealize.ShloMosaic
open Cert.Proof.Best

/-- The order of the reduction's pairs: by value, and at equal values by index. -/
def Le (p q : Ideal .f32 × BitVec 32) : Prop :=
  (p.1 : EReal) < q.1 ∨ (p.1 : EReal) = q.1 ∧ p.2.toInt ≤ q.2.toInt

theorem Le.refl (p : Ideal .f32 × BitVec 32) : Le p p := Or.inr ⟨rfl, le_rfl⟩

theorem Le.trans {p q r : Ideal .f32 × BitVec 32} (h : Le p q) (h' : Le q r) : Le p r := by
  rcases h with h | ⟨h, hi⟩ <;> rcases h' with h' | ⟨h', hi'⟩
  · exact Or.inl (lt_trans h h')
  · exact Or.inl (h' ▸ h)
  · exact Or.inl (h ▸ h')
  · exact Or.inr ⟨h.trans h', hi.trans hi'⟩

/-- The reducer's answer is one of its two pairs, and comes before both. -/
theorem reducer_spec (a b : Ideal .f32 × BitVec 32) :
    (reducer_argmin_f32_i32 a b = a ∨ reducer_argmin_f32_i32 a b = b)
      ∧ Le (reducer_argmin_f32_i32 a b) a ∧ Le (reducer_argmin_f32_i32 a b) b := by
  obtain ⟨av, ai⟩ := a
  obtain ⟨bv, bi⟩ := b
  have hc : decide ((av : EReal) ≠ av) = false := by simp
  have e : reducer_argmin_f32_i32 (F := Ideal) (av, ai) (bv, bi)
      = (Scalar.select (IntOp.ori (BitVec.ofBool (decide ((av : EReal) < bv))) (BitVec.ofBool (decide ((av : EReal) ≠ av)))) av bv,
         Scalar.select (IntOp.ori (IntOp.ori (BitVec.ofBool (decide ((av : EReal) < bv))) (BitVec.ofBool (decide ((av : EReal) ≠ av))))
           (IntOp.andi (BitVec.ofBool (decide ((av : EReal) = bv))) (BitVec.ofBool (ai.slt bi)))) ai bi) := rfl
  rw [hc] at e
  by_cases h1 : (av : EReal) < bv
  · have h2 : decide ((av : EReal) = bv) = false := decide_eq_false (ne_of_lt h1)
    have e' : reducer_argmin_f32_i32 (F := Ideal) (av, ai) (bv, bi) = (av, ai) := by
      rw [e, decide_eq_true h1, h2]
      cases ai.slt bi <;> rfl
    rw [e']
    exact ⟨Or.inl rfl, Le.refl _, Or.inl h1⟩
  · rw [decide_eq_false h1] at e
    by_cases h2 : (av : EReal) = bv
    · rw [decide_eq_true h2] at e
      cases h3 : ai.slt bi
      · rw [h3] at e
        have hle : bi.toInt ≤ ai.toInt := by simpa [BitVec.slt] using h3
        have e' : reducer_argmin_f32_i32 (F := Ideal) (av, ai) (bv, bi) = (bv, bi) := e
        rw [e']
        exact ⟨Or.inr rfl, Or.inr ⟨h2.symm, hle⟩, Le.refl _⟩
      · rw [h3] at e
        have hlt : ai.toInt < bi.toInt := by simpa [BitVec.slt] using h3
        have e' : reducer_argmin_f32_i32 (F := Ideal) (av, ai) (bv, bi) = (bv, ai) := e
        have h2' : av = bv := h2
        rw [e', ← h2']
        exact ⟨Or.inl rfl, Le.refl _, Or.inr ⟨rfl, hlt.le⟩⟩
    · rw [decide_eq_false h2] at e
      have e' : reducer_argmin_f32_i32 (F := Ideal) (av, ai) (bv, bi) = (bv, bi) := by
        rw [e]
        cases ai.slt bi <;> rfl
      rw [e']
      exact ⟨Or.inr rfl, Or.inl (lt_of_le_of_ne (not_lt.1 h1) (Ne.symm h2)), Le.refl _⟩

/-- A fold of the reducer answers one of the pairs it met, and comes before them all. -/
theorem fold_spec : ∀ (L : List (Ideal .f32 × BitVec 32)) (a : Ideal .f32 × BitVec 32),
    (L.foldl reducer_argmin_f32_i32 a = a ∨ L.foldl reducer_argmin_f32_i32 a ∈ L)
      ∧ Le (L.foldl reducer_argmin_f32_i32 a) a ∧ ∀ p ∈ L, Le (L.foldl reducer_argmin_f32_i32 a) p
  | [], a => ⟨Or.inl rfl, Le.refl a, fun p hp => nomatch hp⟩
  | b :: L, a => by
    obtain ⟨hm, hl, hall⟩ := fold_spec L (reducer_argmin_f32_i32 a b)
    obtain ⟨hs, ha, hb⟩ := reducer_spec a b
    rw [List.foldl_cons]
    refine ⟨?_, hl.trans ha, fun p hp => ?_⟩
    · rcases hm with hm | hm
      · rcases hs with hs | hs
        · exact Or.inl (hm.trans hs)
        · exact Or.inr (by rw [hm, hs]; exact List.mem_cons_self ..)
      · exact Or.inr (List.mem_cons_of_mem _ hm)
    · rcases List.mem_cons.1 hp with rfl | hp
      · exact hl.trans hb
      · exact hall p hp

/-- A reduction folds over the pairs whose index reduces into its result's. -/
theorem mem_fiber {α β : Type} {s t : Shape} {axes : List (Fin s.rank)} (x : s.Idx → α) (y : s.Idx → β) (h : s.ReducesTo axes t)
    (j : t.Idx) (p : α × β) : p ∈ Host.argReduceFiber x y h j ↔ ∃ i, h.drop i = j ∧ p = (x i, y i) := by
  rw [Host.argReduceFiber, List.mem_map]
  constructor
  · rintro ⟨a, ha, rfl⟩
    exact ⟨_, by simpa using (List.mem_filter.1 ha).2, rfl⟩
  · rintro ⟨i, hi, rfl⟩
    refine ⟨s.rowMajor i, List.mem_filter.2 ⟨List.mem_finRange _, ?_⟩, ?_⟩
    · rw [Equiv.symm_apply_apply, decide_eq_true_eq]
      exact hi
    · rw [Equiv.symm_apply_apply]

/-- A row of the distances, by column number. -/
def row (D : FVec Ideal S16384x512 .f32) (n : Fin 16384) (k : ℕ) : EReal := D (ix2 n (Fin.ofNat 512 k))

/-- What reduces into a row is that row. -/
theorem drop_iff (i : S16384x512.Idx) (n : Fin 16384) : reducesTo_S16384x512_S16384_d1.drop i = ix1 n ↔ i 0 = n := by
  have hv : (reducesTo_S16384x512_S16384_d1.drop i 0 : Nat) = i 0 := Shape.ReducesTo.drop_apply_val _ i 0
  constructor
  · intro e
    rw [e] at hv
    exact Fin.ext hv.symm
  · intro e
    funext b
    obtain rfl : b = 0 := Subsingleton.elim (α := Fin 1) _ _
    exact Fin.ext (by rw [hv, e]; rfl)

/-- A column's word, read back. -/
theorem word_toInt (k : ℕ) (hk : k < 512) : (BitVec.ofNat 32 k).toInt = (k : ℤ) := by
  rw [BitVec.toInt_eq_toNat_of_lt (by rw [BitVec.toNat_ofNat]; omega), BitVec.toNat_ofNat, Nat.mod_eq_of_lt (by omega)]

/-- An index of the distances, by its row and its column's number. -/
theorem index_eta (i : S16384x512.Idx) (n : Fin 16384) (h : i 0 = n) : i = ix2 n (Fin.ofNat 512 (i 1).val) := by
  have hlt : (i 1).val < 512 := (i 1).isLt
  idx_vars i
  have hm : i1 = Fin.ofNat 512 i1.val := Fin.ext (by rw [Fin.val_ofNat, Nat.mod_eq_of_lt i1.isLt])
  have h' : i0 = n := h
  rw [h']
  exact congrArg (ix2 n) hm

/-- The column number's word at an index. -/
theorem iota_apply (n : Fin 16384) (k : ℕ) (hk : k < 512) :
    iotaInDim S16384x512 32 1 (ix2 n (Fin.ofNat 512 k)) = BitVec.ofNat 32 k := by
  pointwise
  rw [Fin.val_ofNat, Nat.mod_eq_of_lt hk]

/-- The pairs that a reduction of the rows folds over at a row. -/
theorem mem_row (D : FVec Ideal S16384x512 .f32) (y : IVec S16384x512 32)
    (hy : ∀ n k, k < 512 → y (ix2 n (Fin.ofNat 512 k)) = BitVec.ofNat 32 k)
    {axes : List (Fin S16384x512.rank)} (h : S16384x512.ReducesTo axes S16384)
    (hd : ∀ (i : S16384x512.Idx) (n : Fin 16384), h.drop i = ix1 n ↔ i 0 = n) (n : Fin 16384) (p : Ideal .f32 × BitVec 32) :
    p ∈ Host.argReduceFiber D y h (ix1 n) ↔ ∃ k, k < 512 ∧ p = (row D n k, BitVec.ofNat 32 k) := by
  rw [mem_fiber]
  constructor
  · rintro ⟨i, h0, rfl⟩
    rw [hd] at h0
    have hk : (i 1).val < 512 := (i 1).isLt
    have hi := index_eta i n h0
    generalize (i 1).val = k at hk hi
    refine ⟨k, hk, ?_⟩
    rw [hi, hy n k hk]
    rfl
  · rintro ⟨k, hk, rfl⟩
    refine ⟨ix2 n (Fin.ofNat 512 k), (hd _ n).2 rfl, ?_⟩
    rw [hy n k hk]
    rfl

/-- A fold over pairs that are a row's values and their columns' words, from the greatest value and column zero, leaves
    the first column of the least value. -/
theorem fold_first (d : ℕ → EReal) (L : List (Ideal .f32 × BitVec 32))
    (hmem : ∀ p, p ∈ L ↔ ∃ k, k < 512 ∧ p = (d k, BitVec.ofNat 32 k)) (a : Ideal .f32 × BitVec 32) (ha : a = ((⊤ : EReal), 0#32)) :
    ∃ k, First d (fun k => k < 512) k ∧ (L.foldl reducer_argmin_f32_i32 a).2 = BitVec.ofNat 32 k := by
  obtain ⟨hr, -, hall⟩ := fold_spec L a
  generalize L.foldl reducer_argmin_f32_i32 a = r at hr hall ⊢
  obtain ⟨k, hk, rfl⟩ : ∃ k, k < 512 ∧ r = (d k, BitVec.ofNat 32 k) := by
    rcases hr with hr | hr
    · refine ⟨0, by omega, ?_⟩
      have h0 := hall _ ((hmem _).2 ⟨0, by omega, rfl⟩)
      rw [hr, ha] at h0 ⊢
      rcases h0 with h0 | ⟨h0, -⟩
      · exact absurd h0 not_top_lt
      · exact Prod.ext h0 rfl
    · exact (hmem _).1 hr
  refine ⟨k, ⟨hk, fun k' hk' => ?_⟩, rfl⟩
  rcases hall _ ((hmem _).2 ⟨k', hk', rfl⟩) with h | ⟨h, hi⟩
  · exact Or.inl h
  · refine Or.inr ⟨h, ?_⟩
    have hi' : (BitVec.ofNat 32 k).toInt ≤ (BitVec.ofNat 32 k').toInt := hi
    rw [word_toInt k hk, word_toInt k' hk'] at hi'
    exact_mod_cast hi'

/-- Over the extended reals a reduction of pairs is the fold over what reduces into the result's index. -/
theorem second_fold {s t u : Shape} {axes : List (Fin s.rank)}
    (f : Ideal .f32 × BitVec 32 → Ideal .f32 × BitVec 32 → Ideal .f32 × BitVec 32) (x : FVec Ideal s .f32) (y : IVec s 32)
    (ix : FVec Ideal u .f32) (iy : IVec u 32) (h : s.ReducesTo axes t) (hu : 0 < u.numel) (j : t.Idx) :
    RefRun.second f x y ix iy h hu j
      = ((Host.argReduceFiber x y h j).foldl f (ix (Shape.Idx.first hu), iy (Shape.Idx.first hu))).2 := by
  unfold RefRun.second
  rw [Ideal.argReduce_eq_reduce2, Host.reduce2_eq_foldl_fiber]

/-- The reduction starts from the greatest value and column zero. -/
theorem init_eq (i : S_.Idx) : ((constant (F := Ideal) S_ .f32 0x7F800000#32 i, constantI S_ 32 0#32 i) : Ideal .f32 × BitVec 32)
    = ((⊤ : EReal), 0#32) := by
  pointwise
  rw [Words.ofBits_inf]

/-- The second of the pairs that a reduction of the rows leaves: the first column of the row's least value. -/
theorem second_first (D : FVec Ideal S16384x512 .f32) (y : IVec S16384x512 32)
    (hy : ∀ n k, k < 512 → y (ix2 n (Fin.ofNat 512 k)) = BitVec.ofNat 32 k)
    (ix : FVec Ideal S_ .f32) (iy : IVec S_ 32) (hi : ∀ i, ((ix i, iy i) : Ideal .f32 × BitVec 32) = ((⊤ : EReal), 0#32))
    {axes : List (Fin S16384x512.rank)} (h : S16384x512.ReducesTo axes S16384)
    (hd : ∀ (i : S16384x512.Idx) (n : Fin 16384), h.drop i = ix1 n ↔ i 0 = n) (hu : 0 < S_.numel) (n : Fin 16384) :
    ∃ k, First (row D n) (fun k => k < 512) k
      ∧ RefRun.second reducer_argmin_f32_i32 D y ix iy h hu (ix1 n) = BitVec.ofNat 32 k := by
  obtain ⟨k, hk, e⟩ := fold_first (row D n) _ (mem_row D y hy h hd n) _ (hi (Shape.Idx.first hu))
  exact ⟨k, hk, (second_fold reducer_argmin_f32_i32 D y ix iy h hu (ix1 n)).trans e⟩

/-- The reference's reduction at a row: the first column of the row's least distance. -/
theorem least_apply (D : FVec Ideal S16384x512 .f32) (n : Fin 16384) :
    ∃ k, First (row D n) (fun k => k < 512) k ∧ RefRun.least D (ix1 n) = BitVec.ofNat 32 k :=
  second_first D _ iota_apply _ _ init_eq _ drop_iff _ n

end Cert.Proof.RefValue

end
-- ==== Proof.Equation.lean ====
/-
  The equation: from arguments whose points and codebook are real, the kernel's result array is the reference's; and the
  kernel's run read with it.
-/
module

public import proofs.«01_k».proof.Proof.Stored
public import proofs.«01_k».proof.Proof.RefValue

@[expose] public section

set_option maxRecDepth 16384

noncomputable section

namespace Cert.Proof.Equation

open Idealize.ShloMosaic Idealize.ShloMosaic.TcCoe Idealize.SL.Sem
open Cert.Proof.Best Cert.Proof.Distance

section Reference

open Cert.ReferenceIdeal Cert.ReferenceIdeal.Gen

/-- A list of the points' values laid out in rows, at an element. -/
theorem rows_apply (L : IVec S16384 32) (p : Fin 16) (q : Fin 1024) (n : Fin 16384) (hn : n.val = p.val * 1024 + q.val) :
    shapeCast S16x1024 L shapeCasts_S16384_S16x1024 (ix2 p q) = L (ix1 n) := by
  have hlt : p.val * 1024 + q.val < 16384 := hn ▸ n.isLt
  have e : n = ⟨p.val * 1024 + q.val, hlt⟩ := Fin.ext hn
  rw [e]
  pointwise

/-- The reference's result at an element is its reduction's at the point's number. -/
theorem out_apply (x : FVec Ideal S16x1024x32 .f32) (C : FVec Ideal S32x512 .f32) (N : FVec Ideal S1x512 .f32) (p : Fin 16) (q : Fin 1024)
    (n : Fin 16384) (hn : n.val = p.val * 1024 + q.val) :
    RefRun.out x C N (ix2 p q) = RefRun.least (RefRun.dist x C N) (ix1 n) :=
  rows_apply (RefRun.least (RefRun.dist x C N)) p q n hn

/-- With real points and a real codebook, the reference's result holds at every element the first column of the least of
    the kernel's distances. -/
theorem out_first (x : FVec Ideal S16x1024x32 .f32) (C : FVec Ideal S32x512 .f32) (N : FVec Ideal S1x512 .f32)
    (hx : ∀ i, ∃ a : ℝ, x i = (a : EReal)) (hC : ∀ i, ∃ a : ℝ, C i = (a : EReal)) (p : Fin 16) (q : Fin 1024) (n : Fin 16384)
    (hn : n.val = p.val * 1024 + q.val) :
    ∃ k, First (kern x C N n) (fun k => k < 512) k ∧ RefRun.out x C N (ix2 p q) = BitVec.ofNat 32 k := by
  obtain ⟨k, hk, e⟩ := RefValue.least_apply (RefRun.dist x C N) n
  refine ⟨k, hk.congr fun j _ => ?_, (out_apply x C N p q n hn).trans e⟩
  exact (dist_apply x C N n j).trans (kern_eq_refn x C N hx hC n j).symm

end Reference

open Cert.KernelIdeal Cert.KernelIdeal.Gen

variable (m : (ℓ : Loc nD τ sig) → Buf (Elt Ideal) ℓ) (ρ : Dev nD → PrngReg)

/-- The reference's result over the kernel's argument arrays. -/
abbrev result (c : Dev nD) : IVec S16x1024 32 :=
  RefRun.out (F := Ideal) (m ((c.tc : Thread nD τ).loc main_arg0)) (m ((c.tc : Thread nD τ).loc main_arg1)) (m ((c.tc : Thread nD τ).loc main_arg2))

/-- The kernel's run: from real points and a real codebook its result array ends at the reference's result, and its
    arguments are unchanged. -/
theorem run (hx : ∀ c : Dev nD, ∀ i, ∃ a : ℝ, (m ((c.tc : Thread nD τ).loc main_arg0) i : EReal) = (a : EReal))
    (hC : ∀ c : Dev nD, ∀ i, ∃ a : ℝ, (m ((c.tc : Thread nD τ).loc main_arg1) i : EReal) = (a : EReal)) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).1 4).trans (Cert.KernelIdeal.Stored.final m c (result m c)
        fun p q => out_first _ _ _ (hx c) (hC c) p q _ rfl), h.2 c⟩)
    (θ_run_and (run_main m ρ) (unchanged m ρ))

end Cert.Proof.Equation

end
-- ==== Proof.Finite.lean ====
/-
  The precondition read back: where it holds, every coordinate of the points and of the codebook is a real number.
-/
module

public import proofs.«01_k».proof.Pre_finite
public import proofs.«01_k».proof.Proof.Gen.Pre_finite
public import proofs.«01_k».proof.Proof.Words
public import Idealize.ShloMosaic.Lib.Pointwise
public import Idealize.ShloMosaic.Lib.ReduceAll

@[expose] public section

set_option maxRecDepth 16384

noncomputable section

namespace Cert.Proof.Finite

open Cert.Pre_finite Cert.Pre_finite.Gen
open Idealize.ShloMosaic

/-- An extended real whose absolute value is below infinity is a real number. -/
theorem real_of_abs (v : EReal) (h : max v (-v) < ⊤) : ∃ a : ℝ, v = (a : EReal) := by
  induction v with
  | bot => exact absurd h (by simp)
  | coe a => exact ⟨a, rfl⟩
  | top => exact absurd h (by simp)

/-- One element's test passed: the element is a real number. -/
theorem real_of_test {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ a : ℝ, x i = (a : EReal) := by
  have e : cmpf .olt (Host.absf x) (broadcastInDim s ![] hb (constant S_ .f32 0x7F800000#32)) i
      = BitVec.ofBool (decide (max (x i) (-(x i)) < Ideal.ofBits .f32 0x7F800000#32)) := rfl
  rw [e, Words.ofBits_inf] at h
  refine real_of_abs _ ?_
  by_contra hn
  rw [decide_eq_false hn] at h
  exact absurd h (by decide)

instance : Subsingleton S_.Idx := ⟨fun a b => funext fun i => Fin.elim0 i⟩

/-- The precondition gives real points and a real codebook. -/
theorem real (x : FVec Ideal S16x1024x32 .f32) (C : FVec Ideal S32x512 .f32) (N : FVec Ideal S1x512 .f32)
    (h : Cert.Pre_finite.fn (F := Ideal) x C N = fun _ => 1#1) :
    (∀ i, ∃ a : ℝ, x i = (a : EReal)) ∧ ∀ i, ∃ a : ℝ, C i = (a : EReal) := by
  obtain ⟨hx, hC⟩ := IntOp.andi_eq_one.1 (congrFun h ix0)
  exact ⟨fun i => real_of_test _ x i (Host.reduce_andi_all _ _ _ _ ix0 hx i),
    fun i => real_of_test _ C i (Host.reduce_andi_all _ _ _ _ ix0 hC i)⟩

end Cert.Proof.Finite

end
-- ==== Proof.lean ====
/-
  The proof of `Cert.Claim`: the kernel, its idealization and the reference run and leave their arguments unchanged, and
  on finite points and a finite codebook the kernel's result is the reference's. Each part is proved in a module under
  Proof/; this one puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference runs and leaves its arguments unchanged. -/
theorem reference_frame : Cert.quiescent_ReferenceIdeal := fun m ρ _ =>
  (θ_run _ _ _).mono (fun r h => ⟨fun c => (h c).2, sem_eq_zero_of_no_sems (by decide) r.2⟩) (RefRun.run m ρ)

/-- On finite points and a finite codebook, the kernel's result is the reference's. -/
theorem equal : Cert.algebraic_KernelIdeal_ReferenceIdeal_pre_finite := by
  intro m g m' g' hpre hagree
  have hr := fun c => Finite.real _ _ _ (hpre c)
  refine ⟨fun c => Equation.result m c, Equation.run m g (fun c => (hr c).1) (fun c => (hr c).2), ?_⟩
  refine (θ_run _ _ _).mono (fun r h c => ⟨(h c).1.trans ?_, (h c).2⟩) (RefRun.run m' g')
  obtain ⟨h0, h1, h2⟩ := hagree c
  rw [h0, h1, h2]

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, equal⟩

end Cert.Proof

end
